-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_above_minus_inf [hPre_some_above_minus_inf : Cert.Pre_some_above_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_some_above_minus_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_above_minus_inf [hPre_some_above_minus_inf : Cert.Pre_some_above_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_above_minus_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_some_above_minus_inf [hKernelIdeal : Cert.KernelIdeal.Facts] [hPre_some_above_minus_inf : Cert.Pre_some_above_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_above_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_some_above_minus_inf [hReferenceIdeal : Cert.ReferenceIdeal.Facts] [hPre_some_above_minus_inf : Cert.Pre_some_above_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_above_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_some_above_minus_inf [hKernelIdeal : Cert.KernelIdeal.Facts] [hReferenceIdeal : Cert.ReferenceIdeal.Facts] [hPre_some_above_minus_inf : Cert.Pre_some_above_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_above_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_some_above_minus_inf : Cert.Pre_some_above_minus_inf.Facts),
    quiescent_Kernel (hKernel := hKernel)
    ∧ quiescent_KernelIdeal (hKernelIdeal := hKernelIdeal)
    ∧ quiescent_KernelIdeal_pre_some_above_minus_inf (hKernelIdeal := hKernelIdeal) (hPre_some_above_minus_inf := hPre_some_above_minus_inf)
    ∧ quiescent_ReferenceIdeal (hReferenceIdeal := hReferenceIdeal)
    ∧ quiescent_ReferenceIdeal_pre_some_above_minus_inf (hReferenceIdeal := hReferenceIdeal) (hPre_some_above_minus_inf := hPre_some_above_minus_inf)
    ∧ preserves_Kernel_KernelIdeal
    ∧ algebraic_KernelIdeal_ReferenceIdeal_pre_some_above_minus_inf (hKernelIdeal := hKernelIdeal) (hReferenceIdeal := hReferenceIdeal) (hPre_some_above_minus_inf := hPre_some_above_minus_inf)
-- ==== Pre_some_above_minus_inf.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_cst : FVec F S_ .f32 := constant S_ .f32 0xFF800000#32
  let main_v0 : FVec F S33554432 .f32 := broadcastInDim S33554432 ![] bcast_S_S33554432 main_cst
  let main_v1 : IVec S33554432 1 := cmpf .ogt main_arg0 main_v0
  let main_c : IVec S_ 1 := constantI S_ 1 0#1
  let main_v2 : IVec S_ 1 := (fun x v => Host.reduce IntOp.ori x v reducesTo_S33554432_S_d0 h_S_) main_v1 main_c
  main_v2
-- ==== Kernel.lean ====
abbrev S33554432 : Shape := ⟨1, ![33554432]⟩
abbrev S262144x128 : Shape := ⟨2, ![262144, 128]⟩
abbrev S16384x128 : Shape := ⟨2, ![16384, 128]⟩
abbrev S512x128 : Shape := ⟨2, ![512, 128]⟩
abbrev S1 : Shape := ⟨1, ![1]⟩
abbrev S1x512x128 : Shape := ⟨3, ![1, 512, 128]⟩
abbrev S1x1x1 : Shape := ⟨3, ![1, 1, 1]⟩

abbrev nBuf : Space → Nat
  | .hbm => 4
  | .vmem => 5
  | .smem => 1
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S262144x128, .f32⟩
  | .hbm, ⟨3, _⟩ => ⟨S33554432, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S512x128, .f32⟩
  | .local _ .smem, ⟨0, _⟩ => ⟨S1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S33554432 : Shape := ⟨1, ![33554432]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S_, .f32⟩
  | .hbm, ⟨3, _⟩ => ⟨S_, .f32⟩
  | .hbm, ⟨4, _⟩ => ⟨S33554432, .f32⟩
  | .hbm, ⟨5, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Cases.lean ====
/- The points of the kernel's grid and the branches its body takes there. The grid is (2, 16), so point `t` has phase
   `t / 16` and block `t % 16`: the body clears the accumulator at point 0, adds a block of `x` into it at the points
   before 16, takes the reciprocal of its sum at point 16, and writes a block of the result at the points from 16 on. -/
module

public import proofs.«01_k».proof.Proof.Gen.KernelIdeal.Frame
public import proofs.«01_k».proof.Proof.Gen.KernelIdeal.Skeleton
public import Idealize.ShloMosaic.Lib.WordCmp

@[expose] public section

set_option maxRecDepth 16384

noncomputable section

namespace Cert.KernelIdeal.Softmax

open Idealize.ShloMosaic Idealize.ShloMosaic.TcCoe
open Idealize.SL Idealize.SL.RA Idealize.SL.BI Idealize.SL.BI.BIBase
open scoped Idealize.SL.BI
open Cert.KernelIdeal.Gen

variable {F : FTy → Type} [FloatOps F]

local notation "𝕄" => MT nD τ sig Unit (Elt F) ℕ (UR sig nD τ) ℕ

/-- The test of the first branch: phase 0 and block 0. -/
abbrev Clears (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1

/-- The test of the second branch: phase 0. -/
abbrev Adds (i : grid0.Coords) : Prop :=
  Scalar.cmpi .ne (Scalar.extui (Scalar.cmpi .eq (BitVec.ofNat 32 (i 0).val) 0#32)) 0#32 = 1#1

/-- The test of the third branch: phase 1 and block 0. -/
abbrev Inverts (i : grid0.Coords) : Prop :=
  Scalar.cmpi .ne (Scalar.extui (Scalar.andi (Scalar.cmpi .eq (BitVec.ofNat 32 (i 0).val) 1#32)
    (Scalar.cmpi .eq (BitVec.ofNat 32 (i 1).val) 0#32))) 0#32 = 1#1

/-- The test of the fourth branch: phase 1. -/
abbrev Writes (i : grid0.Coords) : Prop := k0_cond4 i = 1#1

/-- There are 32 points. -/
theorem lt_32 (t : Fin cfg0.N) : t.val < 32 := Nat.lt_of_lt_of_eq t.isLt N_0

/-- The phase of point `t`. -/
theorem phase_val (t : Fin cfg0.N) : (grid0.coords t 0).val = t.val / 16 % 2 :=
  Pipeline.Grid.coords_val t 0 (by decide) rfl

/-- The block of point `t`. -/
theorem block_val (t : Fin cfg0.N) : (grid0.coords t 1).val = t.val / 1 % 16 :=
  Pipeline.Grid.coords_val t 1 (by decide) rfl

/-- The accumulator is cleared at point 0 only. -/
theorem clears_iff (t : Fin cfg0.N) : Clears (grid0.coords t) ↔ t.val = 0 := by
  have ht := lt_32 t
  simp only [Clears, phase_val, block_val]
  word_cmp

/-- Blocks are added at the points before 16. -/
theorem adds_iff (t : Fin cfg0.N) : Adds (grid0.coords t) ↔ t.val < 16 := by
  have ht := lt_32 t
  simp only [Adds, phase_val]
  word_cmp

/-- The reciprocal is taken at point 16 only. -/
theorem inverts_iff (t : Fin cfg0.N) : Inverts (grid0.coords t) ↔ t.val = 16 := by
  have ht := lt_32 t
  simp only [Inverts, phase_val, block_val]
  word_cmp

/-- Blocks of the result are written at the points from 16 on. -/
theorem writes_iff (t : Fin cfg0.N) : Writes (grid0.coords t) ↔ 16 ≤ t.val := by
  have ht := lt_32 t
  simp only [Writes, k0_cond4, phase_val]
  word_cmp

/-- The accumulator, as the whole memory reference the body is passed. -/
abbrev accRef : Memref sig .tc .vmem S512x128 .f32 := Memref.whole cc0_scratch0

/-- The cell holding the reciprocal. -/
abbrev invRef : Memref sig .tc .smem S1 .f32 := Memref.whole cc0_scratch1

/-- The staging buffer of the input at point `t`. -/
abbrev inBuf (t : Fin cfg0.N) : Memref sig .tc .vmem S16384x128 .f32 := win0_0.stage (cfg0.slots t 0)

/-- The staging buffer of the output at point `t`. -/
abbrev outBuf (t : Fin cfg0.N) : Memref sig .tc .vmem S16384x128 .f32 := win0_1.stage (cfg0.slots t 1)

/-- What the launch hands the region beside the windows: the accumulator, the cell and the generator's register, all at
    anything. -/
theorem handed_eq (c : Dev nD) :
    (Pipeline.ΦA spec0 c : sProp 𝕄)
      = iprop(iprop((∃ d, owns (c : Thread nD τ) accRef fullShare d) ∗ (∃ d, owns (c : Thread nD τ) invRef fullShare d))
          ∗ (∃ r, prngReg c r)) := by
  unfold Pipeline.ΦA
  rw [scopedRest0_eq]
  simp only [owns_whole]
  rfl

end Cert.KernelIdeal.Softmax

end
-- ==== Proof.Block.lean ====
/- What the body computes from one block of `x`: the accumulator after the block's rows are added into it, the reciprocal
   taken from the accumulator, and the block of the result. The block's 16384 rows are added 512 at a time, in 16 pairs. -/
module

public import proofs.«01_k».proof.Proof.Cases
public import Idealize.ShloMosaic.Lib.Pipeline.FrameBody

@[expose] public section

set_option maxRecDepth 16384

noncomputable section

namespace Cert.KernelIdeal.Softmax

open Idealize.ShloMosaic
open Cert.KernelIdeal.Gen

variable {F : FTy → Type} [FloatOps F]

/-- Every group of 512 rows lies in the block. -/
theorem part_inb (j : Fin 32) : ∀ a : Fin 2, (![512 * j.val, 0] : Fin 2 → ℕ) a + S512x128.size a ≤ S16384x128.size a := by
  intro a
  have hj := j.isLt
  fin_cases a
  · show 512 * j.val + 512 ≤ 16384
    omega
  · exact Nat.le_refl 128

/-- The `j`-th group of 512 rows of a block. -/
def part (x : Vec F S16384x128 .f32) (j : Fin 32) : Vec F S512x128 .f32 :=
  View.ld x (Rect.unit (s := S16384x128) ![512 * j.val, 0] S512x128.size (part_inb j))

/-- The accumulator `a` after the groups `2 k` and `2 k + 1` of a block are exponentiated and added into it. -/
def addPair (x : Vec F S16384x128 .f32) (a : Vec F S512x128 .f32) (k : Fin 16) : Vec F S512x128 .f32 :=
  addf a (addf (exp (part x ⟨2 * k.val, by omega⟩)) (exp (part x ⟨2 * k.val + 1, by omega⟩)))

/-- The accumulator `a` after a whole block is added into it. -/
def addBlock (x : Vec F S16384x128 .f32) (a : Vec F S512x128 .f32) : Vec F S512x128 .f32 :=
  ([0, 1, 2, 3, 4, 5, 6, 7, 8, 9, 10, 11, 12, 13, 14, 15] : List (Fin 16)).foldl (addPair x) a

/-- The cleared accumulator. -/
def zeros : Vec F S512x128 .f32 := broadcast S512x128 (Scalar.ofBits .f32 0x00000000#32)

open Classical in
/-- The accumulator a point before 16 starts from: cleared at the first, else as it was found. -/
def start (i : grid0.Coords) (a : Vec F S512x128 .f32) : Vec F S512x128 .f32 := if Clears i then zeros else a

/-- Cleared where the body clears. -/
theorem start_of (i : grid0.Coords) (h : Clears i) (a : Vec F S512x128 .f32) : start i a = zeros := if_pos h
/-- Left where it does not. -/
theorem start_of_not (i : grid0.Coords) (h : ¬ Clears i) (a : Vec F S512x128 .f32) : start i a = a := if_neg h

open Classical in
/-- The reciprocal a point from 16 on multiplies by: taken from the accumulator at point 16, else as it was found. -/
def factor (i : grid0.Coords) (a : Vec F S512x128 .f32) (v : Vec F S1 .f32) : Vec F S1 .f32 :=
  if Inverts i then fun _ => k0_pay4 a else v

/-- Taken from the accumulator where the body takes it. -/
theorem factor_of (i : grid0.Coords) (h : Inverts i) (a : Vec F S512x128 .f32) (v : Vec F S1 .f32) :
    factor i a v = fun _ => k0_pay4 a := if_pos h
/-- Left where it does not. -/
theorem factor_of_not (i : grid0.Coords) (h : ¬ Inverts i) (a : Vec F S512x128 .f32) (v : Vec F S1 .f32) :
    factor i a v = v := if_neg h

/-- The cell has one index. -/
theorem cell_idx (a b : S1.Idx) : a = b :=
  funext fun d => Fin.ext (by
    have ha := (a d).isLt
    have hb := (b d).isLt
    fin_cases d
    have h1 : S1.size 0 = 1 := rfl
    simp only [Fin.zero_eta, Fin.mk_zero] at *
    omega)

/-- The block of the result: the exponentials of the block of `x`, each times the reciprocal. -/
def scaled (x : Vec F S16384x128 .f32) (v : Vec F S1 .f32) : Vec F S16384x128 .f32 := k0_pay5 x (v fun b => ⟨0, by revert b; decide⟩)

end Cert.KernelIdeal.Softmax

end
-- ==== Proof.Runs.lean ====
module

public import proofs.«01_k».proof.Proof.Block
public import Idealize.ShloMosaic.Lib.Tactic
public import Idealize.ShloMosaic.Lib.VecWindow
public import Idealize.ShloMosaic.Lib.Pipeline.ValueKit

@[expose] public section

set_option maxRecDepth 16384

noncomputable section

namespace Cert.KernelIdeal.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 2000000 in
/-- A point before 16, run on whole buffers: the input's block `x` and the output's buffer stay as found, the accumulator,
    found at `a`, is left with the block added to what it starts from, and the cell stays as found. -/
theorem run_adds (c : Dev nD) (i : grid0.Coords)
    (arg2 : Memref sig .tc .vmem S16384x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .smem S1 .f32) (harg5 : arg5.IsWhole)
    (ha : Adds i) (hi : ¬ Inverts i) (hw : ¬ Writes i)
    (x o : Vec F S16384x128 .f32) (a : Vec F S512x128 .f32) (v : Vec F S1 .f32) (E : Set ℕ) (K : PUnit → sProp 𝕄) :
    iprop(owns (c : Thread nD τ) arg2 fullShare x ∗ owns (c : Thread nD τ) arg3 fullShare o
        ∗ owns (c : Thread nD τ) arg4 fullShare a ∗ owns (c : Thread nD τ) arg5 fullShare v
        ∗ (iprop(owns (c : Thread nD τ) arg2 fullShare x ∗ owns (c : Thread nD τ) arg3 fullShare o
            ∗ owns (c : Thread nD τ) arg4 fullShare (addBlock x (start i a)) ∗ owns (c : Thread nD τ) arg5 fullShare v) -∗ K ⟨⟩))
      ⊢ wp frame (wpE (defs₀ (F := F)) Variants.none c none) E (cc0_flat_softmax i arg2 harg2 arg3 harg3 arg4 harg4 arg5 harg5) K := by
  simp only [cc0_flat_softmax_eq_skeleton]
  unfold cc0_flat_softmax_skel
  simp only [k0_part1_eq_skeleton, k0_part2_eq_skeleton, k0_part3_eq_skeleton, k0_part4_eq_skeleton, k0_part5_eq_skeleton]
  conv => enter [1]; unfold owns
  iintro ⟨⟨%f2, %h2, H2⟩, ⟨%f3, %h3, H3⟩, ⟨%f4, %h4, H4⟩, ⟨%f5, %h5, H5⟩, Hk⟩
  obtain rfl := harg2.eq_unread h2
  obtain rfl := harg4.eq_unread h4
  by_cases hc : Clears i
  on_goal 1 => rw [start_of i hc]
  on_goal 2 => rw [start_of_not i hc]
  all_goals
    sl_exec (disch := first | sl_exact hc | sl_exact ha | sl_exact hi | sl_exact hw)
    sl_step
    iapply Hk
    isplitl [H2]
    · iexists _; isplitr; · ipureintro; exact h2
      iexact H2
    isplitl [H3]
    · iexists _; isplitr; · ipureintro; exact h3
      iexact H3
    isplitl [H4]
    · iexists _; isplitr; swap; · iexact H4
      ipureintro
      rw [View.read_writes_full]
      frame_out
      simp only [k0_pay1, k0_pay2, k0_pay3, k0_pay6, k0_pay7, k0_pay8, k0_pay9, k0_pay10, k0_pay11, k0_pay12, k0_pay13, k0_pay14,
        k0_pay15, k0_pay16, k0_pay17, k0_pay18, k0_pay19, k0_pay20, k0_pay21, k0_pay22, k0_pay23, k0_pay24, shapeCast_self]
      rfl
    iexists _; isplitr; · ipureintro; exact h5
    iexact H5

set_option maxHeartbeats 1000000 in
/-- A point from 16 on, run on whole buffers: the input's block `x` and the accumulator stay as found, the cell is left at
    the reciprocal the point multiplies by, and the output's buffer at the block of the result. -/
theorem run_writes (c : Dev nD) (i : grid0.Coords)
    (arg2 : Memref sig .tc .vmem S16384x128 .f32) (harg2 : arg2.IsWhole) (arg3 : Memref sig .tc .vmem S16384x128 .f32) (harg3 : arg3.IsWhole)
    (arg4 : Memref sig .tc .vmem S512x128 .f32) (harg4 : arg4.IsWhole) (arg5 : Memref sig .tc .smem S1 .f32) (harg5 : arg5.IsWhole)
    (hc : ¬ Clears i) (ha : ¬ Adds i) (hw : Writes i)
    (x o : Vec F S16384x128 .f32) (a : Vec F S512x128 .f32) (v : Vec F S1 .f32) (E : Set ℕ) (K : PUnit → sProp 𝕄) :
    iprop(owns (c : Thread nD τ) arg2 fullShare x ∗ owns (c : Thread nD τ) arg3 fullShare o
        ∗ owns (c : Thread nD τ) arg4 fullShare a ∗ owns (c : Thread nD τ) arg5 fullShare v
        ∗ (iprop(owns (c : Thread nD τ) arg2 fullShare x ∗ owns (c : Thread nD τ) arg3 fullShare (scaled x (factor i a v))
            ∗ owns (c : Thread nD τ) arg4 fullShare a ∗ owns (c : Thread nD τ) arg5 fullShare (factor i a v)) -∗ K ⟨⟩))
      ⊢ wp frame (wpE (defs₀ (F := F)) Variants.none c none) E (cc0_flat_softmax i arg2 harg2 arg3 harg3 arg4 harg4 arg5 harg5) K := by
  simp only [cc0_flat_softmax_eq_skeleton]
  unfold cc0_flat_softmax_skel
  conv => enter [1]; unfold owns
  iintro ⟨⟨%f2, %h2, H2⟩, ⟨%f3, %h3, H3⟩, ⟨%f4, %h4, H4⟩, ⟨%f5, %h5, H5⟩, Hk⟩
  obtain rfl := harg2.eq_unread h2
  obtain rfl := harg4.eq_unread h4
  obtain rfl := harg5.eq_unread h5
  by_cases hi : Inverts i
  on_goal 1 => rw [factor_of i hi]
  on_goal 2 => rw [factor_of_not i hi]
  all_goals
    sl_exec (disch := first | sl_exact hc | sl_exact ha | sl_exact hi | sl_exact hw)
    sl_step
    iapply Hk
    isplitl [H2]
    · iexists _; isplitr; · ipureintro; exact h2
      iexact H2
    isplitl [H3]
    · iexists _; isplitr; swap; · iexact H3
      ipureintro
      rw [View.read_writes_full]
      frame_out
      first
        | rfl
        | exact congrArg (k0_pay5 x) (congrArg v (cell_idx _ _))
    isplitl [H4]
    · iexists _; isplitr; · ipureintro; exact h4
      iexact H4
    iexists _; isplitr; swap; · iexact H5
    ipureintro
    first
      | exact h5
      | rw [View.read_writes_full]; frame_out; rfl

end Cert.KernelIdeal.Softmax

end
-- ==== Proof.Points.lean ====
/- The body at any point of the grid. Before point `n` the accumulator holds the sums of the blocks before `n` (of all 16
   blocks once `n` is 16 or more), and after point 16 the cell holds the reciprocal taken from it. The input window holds its
   block of `x` at every point; the output window is left alone before point 16 and holds its block of the result after every
   point from 16 on. -/
module

public import proofs.«01_k».proof.Proof.Runs

@[expose] public section

set_option maxRecDepth 16384

noncomputable section

namespace Cert.KernelIdeal.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `x` that point `t` works on. -/
def xBlock (c : Dev nD) (t : Fin cfg0.N) : Vec F S16384x128 .f32 := iblk m c 0 t

/-- The accumulator once the blocks of the first `n` points are added into it. -/
def accAt (c : Dev nD) : ℕ → Vec F S512x128 .f32
  | 0 => zeros
  | n + 1 => if h : n < cfg0.N then addBlock (xBlock m c ⟨n, h⟩) (accAt c n) else accAt c n

/-- One more block added. -/
theorem accAt_succ (c : Dev nD) (t : Fin cfg0.N) : accAt m c (t.val + 1) = addBlock (xBlock m c t) (accAt m c t.val) :=
  dif_pos t.isLt

/-- What the cell holds once the reciprocal is taken from the accumulator of all 16 blocks. -/
def recip (c : Dev nD) : Vec F S1 .f32 := fun _ => k0_pay4 (accAt m c 16)

/-- What the scratch buffers hold before point `n`. -/
def Held (c : Dev nD) (n : ℕ) : sProp 𝕄 :=
  iprop((∃ a, ⌜n ≠ 0 → a = accAt m c (min n 16)⌝ ∗ owns (c : Thread nD τ) accRef fullShare a)
    ∗ (∃ v, ⌜16 < n → v = recip m c⌝ ∗ owns (c : Thread nD τ) invRef fullShare v)
    ∗ ∃ r, prngReg c r)

/-- What the body does to each window and to the scratch buffers, point by point: the arrays are what the region finds, the
    input's buffer keeps its block, the output's is left at its block of the result. -/
def dats (_ : Fin 1) (c : Dev nD) : Dat τ (Elt F) Unit ℕ (UR sig nD τ) ℕ cfg0 c where
  A w := V m c (Pipeline.arrRef spec0 w)
  after w t := match w with
    | ⟨0, _⟩ => xBlock m c t
    | ⟨1, _⟩ => scaled (xBlock m c t) (recip m c)
  Φ t := Held m c t.val
  q _ := fullShare
  owed _ := 0

/-- Each window's array begins as the region finds it. -/
theorem dats_A (c : Dev nD) (w : Fin cfg0.W) : (dats m 0 c).A w = V m c (Pipeline.arrRef spec0 w) := by
  dsimp only [dats]

/-- The body leaves the input's block in place. -/
theorem after_in (c : Dev nD) (t : Fin cfg0.N) : (dats m 0 c).after 0 t = xBlock m c t := by dsimp only [dats]

/-- The output's block is the scaled exponentials. -/
theorem after_out (c : Dev nD) (t : Fin cfg0.N) : (dats m 0 c).after 1 t = scaled (xBlock m c t) (recip m c) := by
  dsimp only [dats]

/-- The input's buffer holds its block when the body is called. -/
theorem before_in (c : Dev nD) (t : Fin cfg0.N) (d) : (dats m 0 c).before 0 t d = xBlock m c t :=
  before0_0_of m (dats m 0 c) (dats_A m c 0) (after_in m c) t d

/-- Nothing of the output is written back before point 16. -/
theorem flush_before : ∀ t : Fin cfg0.N, t.val < 16 → (cfg0.win 1).flush t = false :=
  (by decide +kernel : ∀ t : Fin grid0.N, t.val < 16 → win0_1.flush t = false)

/-- The output's block is written back at every point from 16 on. -/
theorem flush_after : ∀ t : Fin cfg0.N, 16 ≤ t.val → (cfg0.win 1).flush t = true :=
  (by decide +kernel : ∀ t : Fin grid0.N, 16 ≤ t.val → win0_1.flush t = true)

/-- The output is left alone exactly before point 16. -/
theorem idle_before (t : Fin cfg0.N) (h : t.val < 16) : cfg0.idle 1 (cfg0.grid.coords t) = true := by
  have : ¬ Writes (grid0.coords t) := fun hw => absurd ((writes_iff t).mp hw) (by omega)
  show (!(k0_cond4 (grid0.coords t) == 1#1)) = true
  simp only [Writes] at this
  simp [this]

/-- The output is written at every point of the second phase. -/
theorem idle_after (t : Fin cfg0.N) (h : 16 ≤ t.val) : cfg0.idle 1 (cfg0.grid.coords t) = false := by
  have : k0_cond4 (grid0.coords t) = 1#1 := (writes_iff t).mpr h
  show (!(k0_cond4 (grid0.coords t) == 1#1)) = false
  simp [this]

/-- What the input's buffer holds after a point. -/
theorem leaves_in (c : Dev nD) (t : Fin cfg0.N) :
    (dats m 0 c).leavesExact 0 t = owns (c : Thread nD τ) (inBuf t) fullShare (xBlock m c t) := by
  unfold Dat.leavesExact
  rw [show cfg0.idle 0 (cfg0.grid.coords t) = false from rfl, after_in]

/-- What the output's buffer holds after a point of the second phase. -/
theorem leaves_out (c : Dev nD) (t : Fin cfg0.N) (h : 16 ≤ t.val) :
    (dats m 0 c).leavesExact 1 t = owns (c : Thread nD τ) (outBuf t) fullShare (scaled (xBlock m c t) (recip m c)) := by
  unfold Dat.leavesExact
  rw [idle_after t h, after_out]

/-- The accumulator a point before 16 leaves. -/
theorem acc_step (c : Dev nD) (t : Fin cfg0.N) (h : t.val < 16) (a : Vec F S512x128 .f32)
    (ha : t.val ≠ 0 → a = accAt m c (min t.val 16)) :
    addBlock (xBlock m c t) (start (grid0.coords t) a) = accAt m c (min (t.val + 1) 16) := by
  rw [show min (t.val + 1) 16 = t.val + 1 by omega, accAt_succ]
  by_cases hz : t.val = 0
  · rw [start_of _ ((clears_iff t).mpr hz), hz]
    rfl
  · rw [start_of_not _ (fun hc => hz ((clears_iff t).mp hc)), ha hz, show min t.val 16 = t.val by omega]

/-- The reciprocal a point from 16 on multiplies by. -/
theorem factor_eq (c : Dev nD) (t : Fin cfg0.N) (h : 16 ≤ t.val) (a : Vec F S512x128 .f32) (v : Vec F S1 .f32)
    (ha : t.val ≠ 0 → a = accAt m c (min t.val 16)) (hv : 16 < t.val → v = recip m c) :
    factor (grid0.coords t) a v = recip m c := by
  by_cases hi : t.val = 16
  · rw [factor_of _ ((inverts_iff t).mpr hi), ha (by omega), show min t.val 16 = 16 by omega]
    rfl
  · rw [factor_of_not _ (fun h' => hi ((inverts_iff t).mp h')), hv (by omega)]

/-- What the body is called with at point `t`. -/
def bodyPre (c : Dev nD) (t : Fin cfg0.N) : sProp 𝕄 :=
  iprop(Held m c t.val ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

/-- What it returns. -/
def bodyPost (c : Dev nD) (t : Fin cfg0.N) : sProp 𝕄 :=
  iprop(Held m c (t.val + 1) ∗ (dats m 0 c).owesAt () t.castSucc
    ∗ (dats m 0 c).leavesExact 0 t ∗ (dats m 0 c).leavesExact 1 t)

set_option maxHeartbeats 1600000 in
/-- A point before 16 adds its block into the accumulator. -/
theorem body_before (c : Dev nD) (t : Fin cfg0.N) (h : t.val < 16) :
    bodyPre m c t ⊢ wp frame (wpE (defs₀ (F := F)) Variants.none c none) Set.univ (bodyAt0 t) (fun _ => bodyPost m c t) := by
  unfold bodyPre bodyPost bodyAt0 Held
  rw [leaves_in, Dat.leavesExact_idle _ 1 t (idle_before t h) (flush_before t h)]
  simp only [before_in]
  iintro ⟨⟨⟨%a, %ha, Ha⟩, ⟨%v, %hv, Hv⟩, Hg⟩, Ho, ⟨%d0, H0⟩, ⟨%d1, H1⟩⟩
  iapply (run_adds c (grid0.coords t) _ _ _ _ _ _ _ _ ((adds_iff t).mpr h)
    (fun hi => absurd ((inverts_iff t).mp hi) (by omega)) (fun hw => absurd ((writes_iff t).mp hw) (by omega))
    (xBlock m c t) ((dats m 0 c).before 1 t d1) a v Set.univ _)
  isplitl [H0]; · iexact H0
  isplitl [H1]; · iexact H1
  isplitl [Ha]; · iexact Ha
  isplitl [Hv]; · iexact Hv
  iintro ⟨H0, H1, Ha, Hv⟩
  isplitl [Ha Hv Hg]
  · isplitl [Ha]
    · iexists _; isplitr; swap; · iexact Ha
      ipureintro; exact fun _ => acc_step m c t h a ha
    isplitl [Hv]
    · iexists _; isplitr; swap; · iexact Hv
      ipureintro; exact fun h' => absurd h' (by omega)
    iexact Hg
  isplitl [Ho]; · iexact Ho
  isplitl [H0]; · iexact H0
  iexists _; iexact H1

set_option maxHeartbeats 1600000 in
/-- A point from 16 on writes its block of the result. -/
theorem body_after (c : Dev nD) (t : Fin cfg0.N) (h : 16 ≤ t.val) :
    bodyPre m c t ⊢ wp frame (wpE (defs₀ (F := F)) Variants.none c none) Set.univ (bodyAt0 t) (fun _ => bodyPost m c t) := by
  unfold bodyPre bodyPost bodyAt0 Held
  rw [leaves_in, leaves_out m c t h]
  simp only [before_in]
  iintro ⟨⟨⟨%a, %ha, Ha⟩, ⟨%v, %hv, Hv⟩, Hg⟩, Ho, ⟨%d0, H0⟩, ⟨%d1, H1⟩⟩
  have hf := factor_eq m c t h a v ha hv
  iapply (run_writes c (grid0.coords t) _ _ _ _ _ _ _ _ (fun hc => absurd ((clears_iff t).mp hc) (by omega))
    (fun h' => absurd ((adds_iff t).mp h') (by omega)) ((writes_iff t).mpr h)
    (xBlock m c t) ((dats m 0 c).before 1 t d1) a v Set.univ _)
  rw [hf]
  isplitl [H0]; · iexact H0
  isplitl [H1]; · iexact H1
  isplitl [Ha]; · iexact Ha
  isplitl [Hv]; · iexact Hv
  iintro ⟨H0, H1, Ha, Hv⟩
  isplitl [Ha Hv Hg]
  · isplitl [Ha]
    · iexists _; isplitr; swap; · iexact Ha
      ipureintro
      intro _
      rw [ha (by omega)]
      exact congrArg _ (by omega)
    isplitl [Hv]
    · iexists _; isplitr; swap; · iexact Hv
      ipureintro; exact fun _ => rfl
    iexact Hg
  isplitl [Ho]; · iexact Ho
  isplitl [H0]; · iexact H0
  iexact H1

/-- The body at every point, as the pipeline calls it. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated ((lt_or_ge t.val 16).elim (body_before m c t) (body_after m c t)) rfl .rfl fun _ => .rfl

/-- Before the first point the scratch buffers may hold anything. -/
theorem held_first (c : Dev nD) : Pipeline.ΦA spec0 c ⊢ (dats m 0 c).Φ 0 := by
  rw [handed_eq]
  show _ ⊢ Held m c 0
  unfold Held
  iintro ⟨⟨⟨%a, Ha⟩, ⟨%v, Hv⟩⟩, Hg⟩
  isplitl [Ha]
  · iexists _; isplitr; swap; · iexact Ha
    ipureintro; exact fun h => absurd rfl h
  isplitl [Hv]
  · iexists _; isplitr; swap; · iexact Hv
    ipureintro; exact fun h => absurd h (by omega)
  iexact Hg

/-- After the last point what they hold is dropped. -/
theorem held_last (c : Dev nD) : (dats m 0 c).Φ (Fin.last cfg0.N) ⊢ Pipeline.ΦA spec0 c := by
  rw [handed_eq]
  show Held m c _ ⊢ _
  unfold Held
  iintro ⟨⟨%a, -, Ha⟩, ⟨%v, -, Hv⟩, Hg⟩
  isplitl [Ha Hv]
  · isplitl [Ha]
    · iexists _; iexact Ha
    iexists _; iexact Hv
  iexact Hg

set_option backward.isDefEq.respectTransparency.types false in
set_option maxHeartbeats 800000 in
/-- The launch: every run of @main ends with the arrays at what the body left in them, the other buffers at what the host
    lines make of those, and every semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := held_first m) (hout := held_last m) (Q' := _)
    (hQ' := fun _ h => h)

/-- The frame: the argument array ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

end Cert.KernelIdeal.Softmax

end
-- ==== Proof.Same.lean ====
/- The kernel as compiled and its idealization are one text: no operation was rewritten. So a fact proved of the
   idealization at every reading of the floats, read at bit patterns, is a fact of the kernel. -/
module

public import proofs.«01_k».proof.Defs
public import proofs.«01_k».proof.Proof.Gen.Kernel
public import proofs.«01_k».proof.Proof.Points

@[expose] public section

set_option maxRecDepth 16384

noncomputable section

namespace Cert.Softmax

open Idealize.ShloMosaic Idealize.ShloMosaic.TcCoe Idealize.SL.Sem

/-- The two body tables run the same body. -/
theorem bodies_eq : ∀ (q : Proc Kernel.τ) (ℓ : Kernel.Λ₀.Label) (a : Kernel.Λ₀.Args ℓ),
    Kernel.defs₀ (F := Bits) q ℓ a = KernelIdeal.defs₀ (F := Bits) q ℓ a
  | .tc, ⟨0, _⟩, (_, _) => rfl
  | .tc, ⟨n + 1, h⟩, _ => absurd h (Nat.not_lt.mpr (Nat.le_add_left 1 n))
  | .scScalar _, _, _ => rfl
  | .scVector _ _, _, _ => rfl

/-- So the tables with the pipeline's own labels added are the same. -/
theorem tables_eq : Kernel.defs (F := Bits) = KernelIdeal.defs (F := Bits) :=
  congrArg (Pipeline.defs (KernelIdeal.pcfgs (F := Bits)))
    (show Kernel.defs₀ (F := Bits) = KernelIdeal.defs₀ (F := Bits) from
      funext fun q => funext fun ℓ => funext fun a => bodies_eq q ℓ a)

/-- The host programs are the same. -/
theorem mains_eq : Kernel.main (F := Bits) = KernelIdeal.main (F := Bits) := rfl

/-- The kernel's run, as compiled, ends with its argument unchanged and every counter zero. -/
theorem kernelFrame (m : (ℓ : Loc Kernel.nD Kernel.τ Kernel.sig) → Buf (Elt Bits) ℓ) (ρ : Dev Kernel.nD → PrngReg) :
    θ_run (Kernel.defs (F := Bits)) (onTc (τ := Kernel.τ) (Kernel.main (F := Bits))) ⟨m, fun _ => 0, ρ⟩ fun r =>
      (∀ c : Dev Kernel.nD, r.2.mem ((c.tc : Thread Kernel.nD Kernel.τ).loc Kernel.main_arg0)
        = m ((c.tc : Thread Kernel.nD Kernel.τ).loc Kernel.main_arg0)) ∧ r.2.sem = fun _ => 0 := by
  rw [tables_eq, mains_eq]
  exact KernelIdeal.Softmax.frame (F := Bits) m ρ

end Cert.Softmax

end
-- ==== Proof.Array.lean ====
/- What the kernel's run leaves in the result array: every element of the argument exponentiated and multiplied by the
   reciprocal the cell holds. The output's 16 blocks, written at the points from 16 on, tile the array, and each is at the
   rows its block of `x` is read from. -/
module

public import proofs.«01_k».proof.Proof.Points
public import Idealize.ShloMosaic.Lib.ValueIdxCore
public import Idealize.ShloMosaic.Lib.Pipeline.ValueKit.Geometry
public import Idealize.ShloMosaic.Lib.StableHlo.Run

@[expose] public section

set_option maxRecDepth 16384

noncomputable section

namespace Cert.KernelIdeal.Softmax

open Idealize.ShloMosaic Idealize.ShloMosaic.TcCoe
open Idealize.SL.Sem
open Idealize.ShloMosaic.Pipeline (Dat)
open Cert.KernelIdeal.Gen

variable {F : FTy → Type} [FloatOps F]
variable (m : (ℓ : Loc nD τ sig) → Buf (Elt F) ℓ) (ρ : Dev nD → PrngReg)

/-- The argument, as launched. -/
abbrev arg (c : Dev nD) : Vec F S33554432 .f32 := m ((c : Thread nD τ).loc main_arg0)

/-- The argument as rows of 128, which is what the blocks are cut from. -/
def rows (c : Dev nD) : Vec F S262144x128 .f32 := shapeCast S262144x128 (arg m c) shapeCasts_S33554432_S262144x128

/-- The region finds the input's array at those rows. -/
theorem V_rows (c : Dev nD) : V m c main_v0 = rows m c := by
  show StableHlo.after [StableHlo.reshape main_arg0 main_v0 rfl shapeCasts_S33554432_S262144x128] _ _ = _
  after_results
  rfl

/-- The input's block at a point: its grid coordinate within the phase. -/
theorem index_in : ∀ t : Fin cfg0.N, win0_0.index t (0 : Fin 2) = t.val % 16 ∧ win0_0.index t (1 : Fin 2) = 0 :=
  (by decide +kernel : ∀ t : Fin grid0.N, win0_0.index t (0 : Fin 2) = t.val % 16 ∧ win0_0.index t (1 : Fin 2) = 0)

/-- The output's block at a point of the second phase: the same. -/
theorem index_out : ∀ t : Fin cfg0.N, 16 ≤ t.val → win0_1.index t (0 : Fin 2) = t.val % 16 ∧ win0_1.index t (1 : Fin 2) = 0 :=
  (by decide +kernel : ∀ t : Fin grid0.N, 16 ≤ t.val → win0_1.index t (0 : Fin 2) = t.val % 16 ∧ win0_1.index t (1 : Fin 2) = 0)

/-- The row of the array that row `y` of block `t % 16` is. -/
def rowOf (t : Fin cfg0.N) (y : S16384x128.Idx) : S262144x128.Idx :=
  ValueIdx.ix2 ⟨16384 * (t.val % 16) + (y 0).val, by
    have h : (y 0).val < 16384 := (y 0).isLt
    omega⟩ (y 1)

/-- The block of `x` at point `t`, read at an index. -/
theorem xBlock_apply (c : Dev nD) (t : Fin cfg0.N) (y : S16384x128.Idx) : xBlock m c t y = rows m c (rowOf t y) := by
  rw [← V_rows]
  show V m c main_v0 (((cfg0.win 0).blk t).view.emb y) = _
  refine congrArg _ (funext fun a => Fin.ext ?_)
  obtain ⟨h0, h1⟩ := index_in t
  match a with
  | ⟨0, _⟩ =>
    show win0_0.index t (0 : Fin 2) * 16384 + 1 * (y 0).val = 16384 * (t.val % 16) + (y 0).val
    rw [h0]; omega
  | ⟨1, _⟩ =>
    show win0_0.index t (1 : Fin 2) * 128 + 1 * (y 1).val = (y 1).val
    rw [h1]; omega

/-- Where the output's block at point `t` lies in the array. -/
theorem out_emb (t : Fin cfg0.N) (h : 16 ≤ t.val) (y : S16384x128.Idx) : ((cfg0.win 1).blk t).view.emb y = rowOf t y := by
  refine funext fun a => Fin.ext ?_
  obtain ⟨h0, h1⟩ := index_out t h
  match a with
  | ⟨0, _⟩ =>
    show win0_1.index t (0 : Fin 2) * 16384 + 1 * (y 0).val = 16384 * (t.val % 16) + (y 0).val
    rw [h0]; omega
  | ⟨1, _⟩ =>
    show win0_1.index t (1 : Fin 2) * 128 + 1 * (y 1).val = (y 1).val
    rw [h1]; omega

/-- The reciprocal itself. -/
def factorOf (c : Dev nD) : F .f32 := k0_pay4 (accAt m c 16)

/-- What the output's array ends at. -/
def scaledRows (c : Dev nD) : Vec F S262144x128 .f32 := fun i => FloatOps.mulf (FloatOps.exp (rows m c i)) (factorOf m c)

/-- What a point from 16 on writes back is its block of that array. -/
theorem flushed_eq (c : Dev nD) (t : Fin cfg0.N) (h : 16 ≤ t.val) :
    (dats m 0 c).flushed 1 t = ((cfg0.win 1).blk t).view.read (Elt F) (scaledRows m c) := by
  show (cfg0.win 1).cut (grid0.coords t) ((dats m 0 c).after 1 t) = _
  rw [after_out]
  funext y
  show FloatOps.mulf (FloatOps.exp (shapeCast S16384x128 (xBlock m c t) shapeCasts_S16384x128_S16384x128 y)) (factorOf m c)
    = scaledRows m c (((cfg0.win 1).blk t).view.emb y)
  rw [shapeCast_self, out_emb t h, xBlock_apply]
  rfl

/-- A block is written back in the second phase only. -/
theorem flush_late (t : Fin cfg0.N) (h : (cfg0.win 1).flush t = true) : 16 ≤ t.val := by
  by_contra hlt
  rw [flush_before t (by omega)] at h
  exact Bool.false_ne_true h

/-- The output's array after the region: the blocks written from point 16 on tile it. -/
theorem out_final (c : Dev nD) : (dats m 0 c).arrAt 1 cfg0.N = scaledRows m c := by
  refine (dats m 0 c).arrAt_eq_of_covers 1 (scaledRows m c) (by decide +kernel) fun t hf y => ?_
  have h := flush_late t hf
  exact congrFun (flushed_eq m c t h) y

/-- What the result ends at: every element exponentiated and multiplied by the reciprocal. -/
def result (c : Dev nD) : Vec F S33554432 .f32 := fun j => FloatOps.mulf (FloatOps.exp (arg m c j)) (factorOf m c)

/-- The host line after the region lays the rows out again. -/
theorem tail_result (c : Dev nD) : Pipeline.afterTail₀ cfgs (dats m) 0 (V0 m) [hostOps1] c main_v2 = result m c := by
  show StableHlo.after [StableHlo.reshape main_v1 main_v2 rfl shapeCasts_S262144x128_S33554432] _ _ = _
  after_results
  funext j
  show shapeCast S33554432 (Pipeline.withArrays spec0 c (V0 m c) (fun w => (dats m 0 c).arrAt w cfg0.N)
    (Proc.devRef .tc (Pipeline.arrRef spec0 1))) shapeCasts_S262144x128_S33554432 j = _
  rw [Pipeline.withArrays_arr spec0 (by decide) c (V0 m c) _ 1, out_final]
  show FloatOps.mulf (FloatOps.exp (shapeCast S33554432 (rows m c) shapeCasts_S262144x128_S33554432 j)) _ = _
  rw [rows, shapeCast_shapeCast]
  rfl

/-- The run, read: the result array at `result`, the argument unchanged. -/
theorem run : θ_run defs (onTc (τ := τ) (main (F := F))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0) :=
  (θ_run defs _ _).mono (fun r h c => ⟨
      ((h.1.1 c).2 main_v2 (Pipeline.mem_restRefs_of main_v2 (by decide) (by decide))).trans (tail_result m c), h.2.1 c⟩)
    (θ_run_and (run_main m ρ) (frame m ρ))

end Cert.KernelIdeal.Softmax

end
-- ==== Proof.Sums.lean ====
/- The accumulator's total, in the extended reals: each point from 0 to 15 adds every exponential of its block of `x` into
   it, 32 groups of 512 rows folded onto one another, so that after point 15 its entries add up to the sum of the
   exponentials of the whole argument; and the reciprocal is 1 divided by that. -/
module

public import proofs.«01_k».proof.Proof.Array
public import Idealize.ShloMosaic.Lib.Pipeline.ValueKit.Acc
public import Idealize.ShloMosaic.PureOps.Ideal.Laws

@[expose] public section

set_option maxRecDepth 16384

noncomputable section

namespace Cert.KernelIdeal.Softmax

open Idealize.ShloMosaic Idealize.ShloMosaic.TcCoe
open Cert.KernelIdeal.Gen
open Finset (range)

variable (m : (ℓ : Loc nD τ sig) → Buf (Elt Ideal) ℓ)

/-- The sum of an accumulator's entries. -/
def total (a : Vec Ideal S512x128 .f32) : EReal := ∑ y : S512x128.Idx, (a y : EReal)

/-- The sum of the exponentials along row `r` of the argument (0 past the last row). -/
def rowSum (c : Dev nD) (r : ℕ) : EReal :=
  if h : r < 262144 then ∑ b : Fin 128, Ideal.exp (rows m c (ValueIdx.ix2 ⟨r, h⟩ b)) else 0

/-- The exponentials of one group of 512 rows of a block are the argument's, at those rows. -/
theorem total_part (c : Dev nD) (t : Fin cfg0.N) (ht : t.val < 16) (j : Fin 32) :
    total (exp (part (xBlock m c t) j)) = ∑ a ∈ range 512, rowSum m c (16384 * t.val + (512 * j.val + a)) := by
  unfold total
  rw [ValueIdx.sum_idx2, Finset.sum_range]
  refine Finset.sum_congr rfl fun a _ => ?_
  have ha : a.val < 512 := a.isLt
  have hj : j.val < 32 := j.isLt
  rw [rowSum, dif_pos (by omega)]
  refine Finset.sum_congr rfl fun b _ => ?_
  show Ideal.exp (xBlock m c t ((Rect.unit (s := S16384x128) ![512 * j.val, 0] S512x128.size (part_inb j)).emb (ValueIdx.ix2 a b))) = _
  rw [xBlock_apply]
  refine congrArg (fun i => Ideal.exp (rows m c i)) (funext fun d => Fin.ext ?_)
  match d with
  | ⟨0, _⟩ =>
    show 16384 * (t.val % 16) + (512 * j.val + 1 * a.val) = 16384 * t.val + (512 * j.val + a.val)
    rw [Nat.mod_eq_of_lt ht, Nat.one_mul]
  | ⟨1, _⟩ =>
    show 0 + 1 * b.val = b.val
    omega

/-- A pair of groups adds its two totals. -/
theorem total_addPair (x : Vec Ideal S16384x128 .f32) (a : Vec Ideal S512x128 .f32) (k : Fin 16) :
    total (addPair x a k)
      = total a + (total (exp (part x ⟨2 * k.val, by omega⟩)) + total (exp (part x ⟨2 * k.val + 1, by omega⟩))) := by
  unfold total
  rw [← Finset.sum_add_distrib, ← Finset.sum_add_distrib]
  rfl

/-- A list of pairs of groups adds the totals of all of them. -/
theorem total_foldl (x : Vec Ideal S16384x128 .f32) (l : List (Fin 16)) (a : Vec Ideal S512x128 .f32) :
    total (l.foldl (addPair x) a) = total a + (l.map fun k : Fin 16 =>
      total (exp (part x ⟨2 * k.val, by omega⟩)) + total (exp (part x ⟨2 * k.val + 1, by omega⟩))).sum := by
  induction l generalizing a with
  | nil => simp
  | cons k l ih => rw [List.foldl_cons, ih, total_addPair, List.map_cons, List.sum_cons, add_assoc]

/-- A block adds the exponentials of its 16384 rows. -/
theorem total_addBlock (c : Dev nD) (t : Fin cfg0.N) (ht : t.val < 16) (a : Vec Ideal S512x128 .f32) :
    total (addBlock (xBlock m c t) a) = total a + ∑ r ∈ range 16384, rowSum m c (16384 * t.val + r) := by
  have hl : ([0, 1, 2, 3, 4, 5, 6, 7, 8, 9, 10, 11, 12, 13, 14, 15] : List (Fin 16)) = List.finRange 16 := by decide
  rw [addBlock, hl, total_foldl, ← List.ofFn_eq_map, List.sum_ofFn]
  refine congrArg (total a + ·) ?_
  let g : ℕ → EReal := fun j => ∑ r ∈ range 512, rowSum m c (16384 * t.val + (512 * j + r))
  have hg : ∀ j : Fin 32, total (exp (part (xBlock m c t) j)) = g j.val := total_part m c t ht
  simp only [hg]
  calc ∑ k : Fin 16, (g (2 * k.val) + g (2 * k.val + 1))
      = ∑ k ∈ range 16, ∑ b ∈ range 2, g (k * 2 + b) := by
        rw [Finset.sum_range]
        refine Finset.sum_congr rfl fun k _ => ?_
        rw [Finset.sum_range_succ, Finset.sum_range_one, Nat.mul_comm]
        rfl
    _ = ∑ j ∈ range 32, g j := (Finset.sum_range_mul_split 16 2 g).symm
    _ = ∑ j ∈ range 32, ∑ r ∈ range 512, rowSum m c (16384 * t.val + (j * 512 + r)) :=
        Finset.sum_congr rfl fun j _ => by rw [Nat.mul_comm j 512]
    _ = ∑ r ∈ range 16384, rowSum m c (16384 * t.val + r) :=
        (Finset.sum_range_mul_split 32 512 fun r => rowSum m c (16384 * t.val + r)).symm

/-- The accumulator's total before point `n`: the exponentials of the first `n` blocks. -/
theorem total_accAt (c : Dev nD) (n : ℕ) (hn : n ≤ 16) : total (accAt m c n) = ∑ r ∈ range (n * 16384), rowSum m c r := by
  induction n with
  | zero =>
    rw [Nat.zero_mul, Finset.sum_range_zero]
    exact Finset.sum_eq_zero fun _ _ => Ideal.ofBits_zero_f32
  | succ n ih =>
    have hN : cfg0.N = 32 := N_0
    rw [accAt_succ m c ⟨n, by omega⟩, total_addBlock m c ⟨n, by omega⟩ (by show n < 16; omega), ih (by omega),
      show (n + 1) * 16384 = n * 16384 + 16384 from Nat.succ_mul _ _, Finset.sum_range_add, Nat.mul_comm 16384]

/-- After point 15 the accumulator's entries add up to the sum of the argument's exponentials. -/
theorem total_final (c : Dev nD) : total (accAt m c 16) = ∑ j : S33554432.Idx, Ideal.exp (arg m c j) := by
  rw [total_accAt m c 16 (Nat.le_refl _), show 16 * 16384 = 262144 from rfl, Finset.sum_range]
  calc ∑ r : Fin 262144, rowSum m c r.val
      = ∑ r : Fin 262144, ∑ b : Fin 128, Ideal.exp (rows m c (ValueIdx.ix2 r b)) :=
        Finset.sum_congr rfl fun r _ => dif_pos r.isLt
    _ = ∑ i : S262144x128.Idx, Ideal.exp (rows m c i) := (ValueIdx.sum_idx2 fun i => Ideal.exp (rows m c i)).symm
    _ = ∑ j : S33554432.Idx, Ideal.exp (arg m c j) :=
        Equiv.sum_comp (Shape.reshapeEquiv shapeCasts_S33554432_S262144x128) fun j => Ideal.exp (arg m c j)

/-- The literal 1. -/
theorem one_lit : Ideal.ofBits .f32 0x3F800000#32 = 1 := by
  simp [Ideal.ofBits, Ideal.ieee, -EReal.coe_mul]
  norm_num

/-- The reciprocal is 1 divided by the accumulator's total. -/
theorem pay4_eq (a : Vec Ideal S512x128 .f32) : k0_pay4 a = Ideal.div 1 (total a) := by
  rw [← one_lit]
  exact congrArg (Ideal.div _) ((Ideal.multiReduction_add_total (shapeCast S1x512x128 a shapeCasts_S512x128_S1x512x128)
    0x00000000#32 reduces_S1x512x128_S1 (by decide) (.inl rfl) rfl _).trans (Equiv.sum_comp (Shape.reshapeEquiv shapeCasts_S512x128_S1x512x128) fun y => (a y : EReal)))

/-- The factor every exponential is multiplied by. -/
theorem factorOf_eq (c : Dev nD) : factorOf m c = Ideal.div 1 (∑ j : S33554432.Idx, Ideal.exp (arg m c j)) := by
  rw [factorOf, pay4_eq, total_final]

end Cert.KernelIdeal.Softmax

end
-- ==== Proof.Ref.lean ====
/- The reference read at an index, what the precondition gives, and the equation: over the extended reals the exponential
   times the reciprocal of the sum is the exponential divided by the sum, unless the sum is 0. -/
module

public import proofs.«01_k».proof.Defs
public import proofs.«01_k».proof.Proof.Gen.ReferenceIdeal
public import Idealize.ShloMosaic.PureOps.Ideal.Laws
public import Idealize.ShloMosaic.Lib.Routing.OpsOrder
public import Idealize.ShloMosaic.Lib.Pointwise.Select
public import Idealize.ShloMosaic.Lib.Pointwise.Reduce

@[expose] public section

set_option maxRecDepth 16384

noncomputable section

namespace Cert.Softmax

open Idealize.ShloMosaic
open Cert.ReferenceIdeal (S33554432 S_)
open Cert.ReferenceIdeal.Gen

/-- The precondition's side conditions are the reference's own. -/
theorem preFacts : Cert.Pre_some_above_minus_inf.Facts where
  bcast_S_S33554432 := bcast_S_S33554432
  reducesTo_S33554432_S_d0 := reducesTo_S33554432_S_d0
  h_S_ := h_S_

/-- The sum of the exponentials of the argument's elements. -/
def sumExp (x : Vec Ideal S33554432 .f32) : EReal := ∑ j : S33554432.Idx, Ideal.exp (x j)

/-- The host's exponential is the ideal one at every element. -/
theorem hostExp_eq (x : Vec Ideal S33554432 .f32) : Host.exp (F := Ideal) (φ := .f32) x = fun j => Ideal.exp (x j) := by
  funext j
  rw [Host.exp_apply, Ideal.hostUnary_exp_def]

/-- The host's sum of the exponentials. -/
theorem hostSum_eq (x : Vec Ideal S33554432 .f32) : Host.reduceAdd (F := Ideal) (φ := .f32) (Host.exp x)
      (constant S_ .f32 0x00000000#32) reducesTo_S33554432_S_d0 h_S_ = fun _ => sumExp x := by
  funext i
  rw [hostExp_eq, Host.reduceAdd_apply, Ideal.hostReduceAdd_def, Ideal.hostReduceAdd_total _ fun b => b.elim0, ← sumExp]
  generalize sumExp x = s
  show Ideal.ofBits .f32 0x00000000#32 + s = s
  rw [Ideal.ofBits_zero_f32, zero_add]

/-- What the reference computes: each exponential divided by the sum of all of them. -/
theorem reference_apply (x : Vec Ideal S33554432 .f32) (j : S33554432.Idx) :
    Host.divf (F := Ideal) (φ := .f32) (Host.exp x) (broadcastInDim S33554432 ![] bcast_S_S33554432
      (Host.reduceAdd (Host.exp x) (constant S_ .f32 0x00000000#32) reducesTo_S33554432_S_d0 h_S_)) j
      = Ideal.div (Ideal.exp (x j)) (sumExp x) := by
  rw [hostSum_eq, hostExp_eq, Host.divf_apply, Pointwise.broadcastInDim_apply, Ideal.hostDivf_def]

/-- An exponential is not negative. -/
theorem exp_nonneg (x : EReal) : 0 ≤ Ideal.exp x := by
  induction x with
  | bot => exact le_refl _
  | coe r => exact EReal.coe_nonneg.mpr (Real.exp_pos r).le
  | top => exact le_top

/-- It is 0 only at -∞. -/
theorem exp_ne_zero (x : EReal) (h : x ≠ ⊥) : Ideal.exp x ≠ 0 := by
  induction x with
  | bot => exact absurd rfl h
  | coe r => exact EReal.coe_ne_zero.mpr (Real.exp_pos r).ne'
  | top => exact EReal.top_ne_zero

/-- The sum of the exponentials is not 0 when some element is not -∞. -/
theorem sumExp_ne_zero (x : Vec Ideal S33554432 .f32) (j : S33554432.Idx) (h : (x j : EReal) ≠ ⊥) : sumExp x ≠ 0 := fun e =>
  exp_ne_zero (x j) h ((Finset.sum_eq_zero_iff_of_nonneg fun _ _ => exp_nonneg _).mp e j (Finset.mem_univ j))

/-- The equation: with a divisor that is not 0, multiplying by its reciprocal is dividing by it. -/
theorem mul_recip (y s : EReal) (h : s ≠ 0) : y * Ideal.div 1 s = Ideal.div y s := by
  rw [Ideal.div, Ideal.div, if_neg h, if_neg h, one_mul]

/-- The literal -∞. -/
theorem bot_lit : Ideal.ofBits .f32 0xFF800000#32 = ⊥ := by
  simp [Ideal.ofBits, Ideal.ieee]

attribute [local instance] preFacts in
/-- What the precondition says: some element is not -∞. -/
theorem pre_exists (x : Vec Ideal S33554432 .f32) (h : Cert.Pre_some_above_minus_inf.fn (F := Ideal) x = fun _ => 1#1) :
    ∃ j : S33554432.Idx, (x j : EReal) ≠ ⊥ := by
  have h0 := congrFun h fun b => b.elim0
  unfold Cert.Pre_some_above_minus_inf.fn at h0
  dsimp only at h0
  rw [Host.reduce_eq_fold] at h0
  obtain ⟨j, -, hj⟩ := (Routing.fold_ori _ _).mp h0
  refine ⟨j, fun e => ?_⟩
  have hc : Ideal.cmp .ogt (x j) (Ideal.ofBits .f32 0xFF800000#32) = 1#1 := hj
  rw [bot_lit, e, Ideal.cmp_ogt, decide_eq_false (lt_irrefl _)] at hc
  exact absurd hc (by decide)

end Cert.Softmax

end
-- ==== Proof.lean ====
module

public import proofs.«01_k».proof.Defs
public import proofs.«01_k».proof.Proof.Same
public import proofs.«01_k».proof.Proof.Sums
public import proofs.«01_k».proof.Proof.Ref
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The reference's run ends with its argument unchanged and every counter zero. -/
theorem referenceFrame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal)))
      ⟨m, fun _ => 0, ρ⟩ fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0))
        ∧ r.2.sem = fun _ => 0 :=
  (θ_run (ReferenceIdeal.defs (F := Ideal)) _ _).mono (fun r h => ⟨fun c => (h c).2, sem_eq_zero_of_no_sems (by decide) r.2⟩)
    (ReferenceIdeal.Value.run m ρ)

/-- The kernel's result is the reference's, at an argument some element of which is not -∞. -/
theorem result_eq (x : Vec Ideal KernelIdeal.S33554432 .f32) (h : ∃ j, (x j : EReal) ≠ ⊥) (j : KernelIdeal.S33554432.Idx) :
    Ideal.exp (x j) * Ideal.div 1 (Softmax.sumExp x) = Ideal.div (Ideal.exp (x j)) (Softmax.sumExp x) := by
  obtain ⟨i, hi⟩ := h
  exact Softmax.mul_recip _ _ (Softmax.sumExp_ne_zero x i hi)

attribute [local instance] Softmax.preFacts in
/-- The value claim. -/
theorem algebraic : Cert.algebraic_KernelIdeal_ReferenceIdeal_pre_some_above_minus_inf := fun m g m' g' hpre hargs => by
  refine ⟨KernelIdeal.Softmax.result m, KernelIdeal.Softmax.run m g, ?_⟩
  refine (θ_run (ReferenceIdeal.defs (F := Ideal)) _ _).mono (fun r h c => ⟨(h c).1.trans ?_, (h c).2⟩)
    (ReferenceIdeal.Value.run m' g')
  rw [hargs c]
  funext j
  refine (Softmax.reference_apply (KernelIdeal.Softmax.arg m c) j).trans ?_
  rw [← result_eq _ (Softmax.pre_exists _ (hpre c)) j, Softmax.sumExp, ← KernelIdeal.Softmax.factorOf_eq]
  rfl

/-- Everything the certificate claims. -/
theorem claim : Cert.Claim :=
  ⟨Cert.Kernel.Gen.facts, Cert.KernelIdeal.Gen.facts, Cert.ReferenceIdeal.Gen.facts, Softmax.preFacts,
    fun m ρ _ => Softmax.kernelFrame m ρ,
    fun m ρ _ => KernelIdeal.Softmax.frame m ρ,
    fun m ρ _ => KernelIdeal.Softmax.frame m ρ,
    fun m ρ _ => referenceFrame m ρ,
    fun m ρ _ => referenceFrame m ρ,
    trivial,
    algebraic⟩

end Cert.Proof

end
